-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bins_on_a_grid [hPre_bins_on_a_grid : Cert.Pre_bins_on_a_grid.Facts] (m : (ℓ : Loc Cert.KernelIdeal.nD Cert.KernelIdeal.τ Cert.KernelIdeal.sig) → Buf (Elt Ideal) ℓ) : Prop :=
  ∀ c : Dev Cert.KernelIdeal.nD,
    (Cert.Pre_bins_on_a_grid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bins_on_a_grid [hPre_bins_on_a_grid : Cert.Pre_bins_on_a_grid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bins_on_a_grid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_bins_on_a_grid [hKernelIdeal : Cert.KernelIdeal.Facts] [hPre_bins_on_a_grid : Cert.Pre_bins_on_a_grid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bins_on_a_grid m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_bins_on_a_grid [hReferenceIdeal : Cert.ReferenceIdeal.Facts] [hPre_bins_on_a_grid : Cert.Pre_bins_on_a_grid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bins_on_a_grid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_bins_on_a_grid [hKernelIdeal : Cert.KernelIdeal.Facts] [hReferenceIdeal : Cert.ReferenceIdeal.Facts] [hPre_bins_on_a_grid : Cert.Pre_bins_on_a_grid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bins_on_a_grid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_bins_on_a_grid : Cert.Pre_bins_on_a_grid.Facts),
    quiescent_Kernel (hKernel := hKernel)
    ∧ quiescent_KernelIdeal (hKernelIdeal := hKernelIdeal)
    ∧ quiescent_KernelIdeal_pre_bins_on_a_grid (hKernelIdeal := hKernelIdeal) (hPre_bins_on_a_grid := hPre_bins_on_a_grid)
    ∧ quiescent_ReferenceIdeal (hReferenceIdeal := hReferenceIdeal)
    ∧ quiescent_ReferenceIdeal_pre_bins_on_a_grid (hReferenceIdeal := hReferenceIdeal) (hPre_bins_on_a_grid := hPre_bins_on_a_grid)
    ∧ preserves_Kernel_KernelIdeal
    ∧ algebraic_KernelIdeal_ReferenceIdeal_pre_bins_on_a_grid (hKernelIdeal := hKernelIdeal) (hReferenceIdeal := hReferenceIdeal) (hPre_bins_on_a_grid := hPre_bins_on_a_grid)
-- ==== Pre_bins_on_a_grid.lean ====
abbrev S16384x1 : Shape := ⟨2, ![16384, 1]⟩
abbrev S64x64x2 : Shape := ⟨3, ![64, 64, 2]⟩
abbrev S64x64x1 : Shape := ⟨3, ![64, 64, 1]⟩
abbrev S64x64 : Shape := ⟨2, ![64, 64]⟩
abbrev S64x1 : Shape := ⟨2, ![64, 1]⟩
abbrev S_ : Shape := ⟨0, ![]⟩
abbrev S1x64 : Shape := ⟨2, ![1, 64]⟩

class Facts : Prop where
  slices_S64x64x2_S64x64x1_0_0_0 : S64x64x2.Slices ![0, 0, 0] S64x64x1
  shapeCasts_S64x64x1_S64x64 : S64x64x1.ShapeCasts S64x64
  slices_S64x64x2_S64x64x1_0_0_1 : S64x64x2.Slices ![0, 0, 1] S64x64x1
  slices_S64x64_S64x1_0_0 : S64x64.Slices ![0, 0] S64x1
  bcast_S64x1_S64x64_0_1 : S64x1.BroadcastsInDim S64x64 (![0, 1] : Fin 2 → Fin S64x64.rank)
  reducesTo_S64x64_S_d0_1 : S64x64.ReducesTo [0, 1] S_
  h_S_ : 0 < S_.numel
  slices_S64x64_S1x64_0_0 : S64x64.Slices ![0, 0] S1x64
  bcast_S1x64_S64x64_0_1 : S1x64.BroadcastsInDim S64x64 (![0, 1] : Fin 2 → Fin S64x64.rank)
  bcast_S_S64x64x1 : S_.BroadcastsInDim S64x64x1 (![] : Fin 0 → Fin S64x64x1.rank)
  reducesTo_S64x64x1_S_d0_1_2 : S64x64x1.ReducesTo [0, 1, 2] S_

variable [Facts]

def fn {F : FTy → Type} [FloatOps F] (main_arg0 : FVec F S16384x1 .f32) (main_arg1 : FVec F S16384x1 .f32) (main_arg2 : FVec F S64x64x2 .f32) (main_arg3 : FVec F S64x64x1 .f32) : IVec S_ 1 :=
  let main_v0 : FVec F S64x64x1 .f32 := (extractStridedSlice S64x64x1 ![0, 0, 0] · slices_S64x64x2_S64x64x1_0_0_0) main_arg2
  let main_v1 : FVec F S64x64 .f32 := shapeCast S64x64 main_v0 shapeCasts_S64x64x1_S64x64
  let main_v2 : FVec F S64x64x1 .f32 := (extractStridedSlice S64x64x1 ![0, 0, 1] · slices_S64x64x2_S64x64x1_0_0_1) main_arg2
  let main_v3 : FVec F S64x64 .f32 := shapeCast S64x64 main_v2 shapeCasts_S64x64x1_S64x64
  let main_v4 : FVec F S64x1 .f32 := (extractStridedSlice S64x1 ![0, 0] · slices_S64x64_S64x1_0_0) main_v1
  let main_v5 : FVec F S64x64 .f32 := broadcastInDim S64x64 ![0, 1] bcast_S64x1_S64x64_0_1 main_v4
  let main_v6 : IVec S64x64 1 := cmpf .oeq main_v1 main_v5
  let main_c : IVec S_ 1 := constantI S_ 1 1#1
  let main_v7 : IVec S_ 1 := (fun x v => Host.reduce IntOp.andi x v reducesTo_S64x64_S_d0_1 h_S_) main_v6 main_c
  let main_v8 : FVec F S1x64 .f32 := (extractStridedSlice S1x64 ![0, 0] · slices_S64x64_S1x64_0_0) main_v3
  let main_v9 : FVec F S64x64 .f32 := broadcastInDim S64x64 ![0, 1] bcast_S1x64_S64x64_0_1 main_v8
  let main_v10 : IVec S64x64 1 := cmpf .oeq main_v3 main_v9
  let main_c_0 : IVec S_ 1 := constantI S_ 1 1#1
  let main_v11 : IVec S_ 1 := (fun x v => Host.reduce IntOp.andi x v reducesTo_S64x64_S_d0_1 h_S_) main_v10 main_c_0
  let main_v12 : IVec S_ 1 := andi main_v7 main_v11
  let main_cst : FVec F S_ .f32 := constant S_ .f32 0x3C23D70A#32
  let main_v13 : FVec F S64x64x1 .f32 := broadcastInDim S64x64x1 ![] bcast_S_S64x64x1 main_cst
  let main_v14 : FVec F S64x64x1 .f32 := addf main_arg3 main_v13
  let main_cst_1 : FVec F S_ .f32 := constant S_ .f32 0x00000000#32
  let main_v15 : FVec F S64x64x1 .f32 := broadcastInDim S64x64x1 ![] bcast_S_S64x64x1 main_cst_1
  let main_v16 : IVec S64x64x1 1 := cmpf .oge main_v14 main_v15
  let main_c_2 : IVec S_ 1 := constantI S_ 1 1#1
  let main_v17 : IVec S_ 1 := (fun x v => Host.reduce IntOp.andi x v reducesTo_S64x64x1_S_d0_1_2 h_S_) main_v16 main_c_2
  let main_v18 : IVec S_ 1 := andi main_v12 main_v17
  main_v18
-- ==== Kernel.lean ====
abbrev S16384x1 : Shape := ⟨2, ![16384, 1]⟩
abbrev S64x64x2 : Shape := ⟨3, ![64, 64, 2]⟩
abbrev S64x64x1 : Shape := ⟨3, ![64, 64, 1]⟩
abbrev S64x1x1 : Shape := ⟨3, ![64, 1, 1]⟩
abbrev S64 : Shape := ⟨1, ![64]⟩
abbrev S1x64x1 : Shape := ⟨3, ![1, 64, 1]⟩
abbrev S128 : Shape := ⟨1, ![128]⟩
abbrev S1x128 : Shape := ⟨2, ![1, 128]⟩
abbrev S_ : Shape := ⟨0, ![]⟩
abbrev S64x64 : Shape := ⟨2, ![64, 64]⟩
abbrev S64x128 : Shape := ⟨2, ![64, 128]⟩
abbrev S4096x1 : Shape := ⟨2, ![4096, 1]⟩
abbrev S4096x128 : Shape := ⟨2, ![4096, 128]⟩
abbrev S4096x64 : Shape := ⟨2, ![4096, 64]⟩
abbrev S4096 : Shape := ⟨1, ![4096]⟩

abbrev nBuf : Space → Nat
  | .hbm => 24
  | .vmem => 9
  | .smem => 0
  | _ => 0

abbrev bufTy : (tb : Table) → Fin (tcTables nBuf tb) → BufTy
  | .hbm, ⟨0, _⟩ => ⟨S16384x1, .f32⟩
  | .hbm, ⟨1, _⟩ => ⟨S16384x1, .f32⟩
  | .hbm, ⟨2, _⟩ => ⟨S64x64x2, .f32⟩
  | .hbm, ⟨3, _⟩ => ⟨S64x64x1, .f32⟩
  | .hbm, ⟨4, _⟩ => ⟨S64x1x1, .f32⟩
  | .hbm, ⟨5, _⟩ => ⟨S64, .f32⟩
  | .hbm, ⟨6, _⟩ => ⟨S1x64x1, .f32⟩
  | .hbm, ⟨7, _⟩ => ⟨S64, .f32⟩
  | .hbm, ⟨8, _⟩ => ⟨S128, .f32⟩
  | .hbm, ⟨9, _⟩ => ⟨S1x128, .f32⟩
  | .hbm, ⟨10, _⟩ => ⟨S_, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S128, .f32⟩
  | .hbm, ⟨15, _⟩ => ⟨S1x128, .f32⟩
  | .hbm, ⟨16, _⟩ => ⟨S_, .f32⟩
  | .hbm, ⟨17, _⟩ => ⟨S64x64, .f32⟩
  | .hbm, ⟨18, _⟩ => ⟨S64x64, .f32⟩
  | .hbm, ⟨19, _⟩ => ⟨S_, .f32⟩
  | .hbm, ⟨20, _⟩ => ⟨S64x64, .f32⟩
  | .hbm, ⟨21, _⟩ => ⟨S64x64, .f32⟩
  | .hbm, ⟨22, _⟩ => ⟨S64x128, .f32⟩
  | .hbm, ⟨23, _⟩ => ⟨S16384x1, .f32⟩
  | .local _ .vmem, ⟨0, _⟩ => ⟨S4096x1, .f32⟩
  | .local _ .vmem, ⟨1, _⟩ => ⟨S4096x1, .f32⟩
  | .local _ .vmem, ⟨2, _⟩ => ⟨S4096x1, .f32⟩
  | .local _ .vmem, ⟨3, _⟩ => ⟨S4096x1, .f32⟩
  | .local _ .vmem, ⟨4, _⟩ => ⟨S1x128, .f32⟩
  | .local _ .vmem, ⟨5, _⟩ => ⟨S1x128, .f32⟩
  | .local _ .vmem, ⟨6, _⟩ => ⟨S64x128, .f32⟩
  | .local _ .vmem, ⟨7, _⟩ => ⟨S4096x1, .f32⟩
  | .local _ .vmem, ⟨8, _⟩ => ⟨S4096x1, .f32⟩
  | _, _ => ⟨S16384x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S16384x1 : Shape := ⟨2, ![16384, 1]⟩
abbrev S64x64x2 : Shape := ⟨3, ![64, 64, 2]⟩
abbrev S64x64x1 : Shape := ⟨3, ![64, 64, 1]⟩
abbrev S2 : Shape := ⟨1, ![2]⟩
abbrev S16384x2 : Shape := ⟨2, ![16384, 2]⟩
abbrev S16384x1x2 : Shape := ⟨3, ![16384, 1, 2]⟩
abbrev S1x4096x2 : Shape := ⟨3, ![1, 4096, 2]⟩
abbrev S16384x4096x2 : Shape := ⟨3, ![16384, 4096, 2]⟩
abbrev S1x1x2 : Shape := ⟨3, ![1, 1, 2]⟩
abbrev S_ : Shape := ⟨0, ![]⟩
abbrev S16384x4096 : Shape := ⟨2, ![16384, 4096]⟩
abbrev S1x4096 : Shape := ⟨2, ![1, 4096]⟩
abbrev S16384 : Shape := ⟨1, ![16384]⟩

abbrev nBuf : Space → Nat
  | .hbm => 35
  | .vmem => 0
  | .smem => 0
  | _ => 0

abbrev bufTy : (tb : Table) → Fin (tcTables nBuf tb) → BufTy
  | .hbm, ⟨0, _⟩ => ⟨S16384x1, .f32⟩
  | .hbm, ⟨1, _⟩ => ⟨S16384x1, .f32⟩
  | .hbm, ⟨2, _⟩ => ⟨S64x64x2, .f32⟩
  | .hbm, ⟨3, _⟩ => ⟨S64x64x1, .f32⟩
  | .hbm, ⟨4, _⟩ => ⟨S2, .f32⟩
  | .hbm, ⟨5, _⟩ => ⟨S2, .f32⟩
  | .hbm, ⟨6, _⟩ => ⟨S16384x2, .f32⟩
  | .hbm, ⟨7, _⟩ => ⟨S16384x1x2, .f32⟩
  | .hbm, ⟨8, _⟩ => ⟨S1x4096x2, .f32⟩
  | .hbm, ⟨9, _⟩ => ⟨S16384x4096x2, .f32⟩
  | .hbm, ⟨10, _⟩ => ⟨S16384x4096x2, .f32⟩
  | .hbm, ⟨11, _⟩ => ⟨S16384x4096x2, .f32⟩
  | .hbm, ⟨12, _⟩ => ⟨S16384x4096x2, .f32⟩
  | .hbm, ⟨13, _⟩ => ⟨S2, .f32⟩
  | .hbm, ⟨14, _⟩ => ⟨S2, .f32⟩
  | .hbm, ⟨15, _⟩ => ⟨S1x1x2, .f32⟩
  | .hbm, ⟨16, _⟩ => ⟨S16384x4096x2, .f32⟩
  | .hbm, ⟨17, _⟩ => ⟨S16384x4096x2, .f32⟩
  | .hbm, ⟨18, _⟩ => ⟨S_, .f32⟩
  | .hbm, ⟨19, _⟩ => ⟨S16384x4096, .f32⟩
  | .hbm, ⟨20, _⟩ => ⟨S_, .f32⟩
  | .hbm, ⟨21, _⟩ => ⟨S16384x4096, .f32⟩
  | .hbm, ⟨22, _⟩ => ⟨S16384x4096, .f32⟩
  | .hbm, ⟨23, _⟩ => ⟨S1x4096, .f32⟩
  | .hbm, ⟨24, _⟩ => ⟨S_, .f32⟩
  | .hbm, ⟨25, _⟩ => ⟨S1x4096, .f32⟩
  | .hbm, ⟨26, _⟩ => ⟨S1x4096, .f32⟩
  | .hbm, ⟨27, _⟩ => ⟨S1x4096, .f32⟩
  | .hbm, ⟨28, _⟩ => ⟨S16384x4096, .f32⟩
  | .hbm, ⟨29, _⟩ => ⟨S16384x4096, .f32⟩
  | .hbm, ⟨30, _⟩ => ⟨S16384x4096, .f32⟩
  | .hbm, ⟨31, _⟩ => ⟨S_, .f32⟩
  | .hbm, ⟨32, _⟩ => ⟨S16384, .f32⟩
  | .hbm, ⟨33, _⟩ => ⟨S16384x1, .f32⟩
  | .hbm, ⟨34, _⟩ => ⟨S16384x1, .f32⟩
  | _, _ => ⟨S16384x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Proof.Factor.lean ====
/-
  The mathematics, on extended reals, away from both programs.

  The reference adds up, over the 64 × 64 bins, the exponential of a log-density; the kernel adds up products of two
  one-dimensional densities and a weight. `bin_eq` says one bin's terms agree — at every extended real offset and every
  nonnegative weight, the infinities included —, `sum_bins` turns the reference's one index into a row and a column, and
  `sum_factor` pulls a column's density out of the sum over rows.
-/
module

public import Idealize.ShloMosaic.PureOps.Ideal.Laws
public import Mathlib.Data.EReal.Operations
public import Mathlib.Logic.Equiv.Fin.Basic

@[expose] public section

noncomputable section

namespace Cert.Factor

open Idealize.ShloMosaic

/-! ## The constants of the two programs -/

/-- The kernel's scale is -50. -/
theorem ofBits_scale : Ideal.ofBits .f32 0xC2480000#32 = ((-50 : ℝ) : EReal) := by
  simp [Ideal.ofBits, Ideal.ieee, -EReal.coe_mul]; norm_num

/-- The reference's factor of the squared distance is -1/2. -/
theorem ofBits_half : Ideal.ofBits .f32 0xBF000000#32 = ((-1 / 2 : ℝ) : EReal) := by
  simp [Ideal.ofBits, Ideal.ieee, -EReal.coe_mul]; norm_num

/-- The reference divides 1 by 10 to make its standard deviation. -/
theorem ofBits_ten : Ideal.ofBits .f32 0x41200000#32 = ((10 : ℝ) : EReal) := by
  simp [Ideal.ofBits, Ideal.ieee, -EReal.coe_mul]; norm_num

/-- The reference's variance, a tenth squared. -/
def variance : EReal := Ideal.div 1 (Ideal.ofBits .f32 0x41200000#32) * Ideal.div 1 (Ideal.ofBits .f32 0x41200000#32)

/-- The variance is one hundredth. -/
theorem variance_eq : variance = ((1 / 100 : ℝ) : EReal) := by
  unfold variance
  rw [ofBits_ten, Ideal.div_coe (by norm_num), one_mul, ← EReal.coe_mul]
  norm_num

/-- Dividing by the variance multiplies by one hundred. -/
theorem div_variance (x : EReal) : Ideal.div x variance = x * ((100 : ℝ) : EReal) := by
  rw [variance_eq, Ideal.div_coe (by norm_num)]
  norm_num

/-! ## One dimension -/

/-- The kernel's one-dimensional density at the offset `d`: `exp (-50 d²)`. -/
def bell (d : EReal) : EReal := Ideal.exp (Ideal.ofBits .f32 0xC2480000#32 * d * d)

/-- At a real offset the density is the real exponential. -/
theorem bell_coe (r : ℝ) : bell (r : EReal) = ((Real.exp (-50 * r * r) : ℝ) : EReal) := by
  unfold bell
  rw [ofBits_scale, ← EReal.coe_mul, ← EReal.coe_mul, Ideal.exp_coe]

/-- At an infinite offset the density is zero. -/
theorem bell_top : bell ⊤ = 0 := by
  unfold bell
  rw [ofBits_scale, EReal.coe_mul_top_of_neg (by norm_num), EReal.bot_mul_top, Ideal.exp_bot]

/-- At an infinite offset of the other sign the density is zero too. -/
theorem bell_bot : bell ⊥ = 0 := by
  unfold bell
  rw [ofBits_scale, EReal.coe_mul_bot_of_neg (by norm_num), EReal.top_mul_bot, Ideal.exp_bot]

/-- The density is nonnegative. -/
theorem bell_nonneg (d : EReal) : 0 ≤ bell d := by
  induction d using EReal.rec with
  | bot => rw [bell_bot]
  | top => rw [bell_top]
  | coe r => rw [bell_coe]; exact_mod_cast (Real.exp_pos _).le

/-- The reference's exponent from the two offsets: minus half the sum of the squares over the variance. -/
def exponent (p q : EReal) : EReal :=
  Ideal.ofBits .f32 0xBF000000#32 * (Ideal.div (p * p) variance + Ideal.div (q * q) variance)

/-- At two real offsets the exponent is the sum of the kernel's two exponents. -/
theorem exponent_coe (p q : ℝ) : exponent (p : EReal) (q : EReal) = ((-50 * p * p + -50 * q * q : ℝ) : EReal) := by
  unfold exponent
  rw [div_variance, div_variance, ofBits_half]
  simp only [← EReal.coe_mul, ← EReal.coe_add]
  exact congrArg _ (by ring)

/-- A square over the variance is not minus infinity. -/
theorem square_ne_bot (d : EReal) : Ideal.div (d * d) variance ≠ ⊥ := by
  rw [div_variance]
  induction d using EReal.rec with
  | bot => rw [EReal.bot_mul_bot, EReal.top_mul_coe_of_pos (by norm_num)]; exact bot_lt_top.ne'
  | top => rw [EReal.top_mul_top, EReal.top_mul_coe_of_pos (by norm_num)]; exact bot_lt_top.ne'
  | coe r => rw [← EReal.coe_mul, ← EReal.coe_mul]; exact EReal.coe_ne_bot _

/-- When a square over the variance is infinite, so is the sum, and the exponent is minus infinity. -/
theorem exponent_of_left {p : EReal} (q : EReal) (hp : p = ⊤ ∨ p = ⊥) : exponent p q = ⊥ := by
  have h : Ideal.div (p * p) variance = ⊤ := by
    rw [div_variance]
    rcases hp with rfl | rfl
    · rw [EReal.top_mul_top, EReal.top_mul_coe_of_pos (by norm_num)]
    · rw [EReal.bot_mul_bot, EReal.top_mul_coe_of_pos (by norm_num)]
  unfold exponent
  rw [h, EReal.top_add_of_ne_bot (square_ne_bot q), ofBits_half, EReal.coe_mul_top_of_neg (by norm_num)]

/-- The exponent does not depend on the order of the two offsets. -/
theorem exponent_comm (p q : EReal) : exponent p q = exponent q p := by
  unfold exponent
  rw [add_comm]

/-- Adding the logarithm of a nonnegative weight under a real exponent multiplies the exponential by that weight. -/
theorem exp_add_log (r : ℝ) {e : EReal} (he : 0 ≤ e) :
    Ideal.exp ((r : EReal) + Ideal.log e) = ((Real.exp r : ℝ) : EReal) * e := by
  induction e using EReal.rec with
  | bot => exact absurd he (not_le.2 EReal.bot_lt_zero)
  | top =>
    rw [Ideal.log_top, EReal.coe_add_top, Ideal.exp_top, EReal.coe_mul_top_of_pos (Real.exp_pos r)]
  | coe s =>
    have hs : 0 ≤ s := by exact_mod_cast he
    rw [Ideal.log_coe]
    rcases hs.eq_or_lt with rfl | h
    · simp
    · rw [if_neg (not_le.2 h), ← EReal.coe_add, Ideal.exp_coe, Real.exp_add, Real.exp_log h, EReal.coe_mul]

/-! ## One bin -/

/-- ONE BIN: the exponential of the reference's log-density plus log-weight is the kernel's product, at every pair of
    offsets and every nonnegative weight. -/
theorem bin_eq (p q : EReal) {e : EReal} (he : 0 ≤ e) :
    Ideal.exp (exponent p q + Ideal.log e) = bell p * e * bell q := by
  by_cases hp : p = ⊤ ∨ p = ⊥
  · rw [exponent_of_left q hp, EReal.bot_add, Ideal.exp_bot]
    rcases hp with rfl | rfl
    · rw [bell_top, zero_mul, zero_mul]
    · rw [bell_bot, zero_mul, zero_mul]
  by_cases hq : q = ⊤ ∨ q = ⊥
  · rw [exponent_comm, exponent_of_left p hq, EReal.bot_add, Ideal.exp_bot]
    rcases hq with rfl | rfl
    · rw [bell_top, mul_zero]
    · rw [bell_bot, mul_zero]
  rw [not_or] at hp hq
  lift p to ℝ using hp
  lift q to ℝ using hq
  rw [exponent_coe, exp_add_log _ he, Real.exp_add, EReal.coe_mul, bell_coe, bell_coe]
  exact mul_right_comm _ _ _

/-! ## The sums -/

/-- A sum over 4096 bins read by quotient and remainder by 64 is a sum over columns of sums over rows. -/
theorem sum_bins (f : Fin 64 → Fin 64 → EReal) :
    ∑ k : Fin 4096, f ⟨k.val / 64, by omega⟩ ⟨k.val % 64, by omega⟩ = ∑ j : Fin 64, ∑ i : Fin 64, f i j := by
  rw [Finset.sum_comm, ← Fintype.sum_prod_type']
  exact Fintype.sum_equiv (finProdFinEquiv (m := 64) (n := 64)).symm _ _ fun _ => rfl

/-- A factor comes out of a sum of nonnegative terms. -/
theorem sum_factor {ι : Type} (s : Finset ι) (f : ι → EReal) (hf : ∀ i, 0 ≤ f i) (y : EReal) :
    (∑ i ∈ s, f i) * y = ∑ i ∈ s, f i * y := by
  classical
  induction s using Finset.induction_on with
  | empty => simp
  | insert i s hi ih =>
    rw [Finset.sum_insert hi, Finset.sum_insert hi,
      EReal.right_distrib_of_nonneg (hf i) (Finset.sum_nonneg fun j _ => hf j), ih]

/-- A sum over 128 lanes whose first 64 terms are zero is the sum over the last 64. -/
theorem sum_upper (f : Fin 128 → EReal) (h : ∀ k : Fin 128, k.val < 64 → f k = 0) :
    ∑ k, f k = ∑ j : Fin 64, f ⟨j.val + 64, by omega⟩ := by
  rw [show (∑ k, f k) = _ from Fin.sum_univ_add (a := 64) (b := 64) f,
    Finset.sum_eq_zero fun i _ => h _ i.isLt, zero_add]
  exact Finset.sum_congr rfl fun j _ => congrArg f (Fin.ext (Nat.add_comm _ _))

/-- The kernel's order of summation: the weighted densities of the rows first, then the density of the column. -/
def mixture (z t : EReal) (a b : Fin 64 → EReal) (e : Fin 64 → Fin 64 → EReal) : EReal :=
  ∑ j, (∑ i, bell (z - a i) * e i j) * bell (t - b j)

/-- THE EQUATION: with nonnegative weights, the reference's sum over all bins is the kernel's sum of row sums. -/
theorem sum_eq_mixture (z t : EReal) (a b : Fin 64 → EReal) (e : Fin 64 → Fin 64 → EReal) (he : ∀ i j, 0 ≤ e i j) :
    ∑ k : Fin 4096, Ideal.exp (exponent (z - a ⟨k.val / 64, by omega⟩) (t - b ⟨k.val % 64, by omega⟩)
        + Ideal.log (e ⟨k.val / 64, by omega⟩ ⟨k.val % 64, by omega⟩))
      = mixture z t a b e := by
  rw [sum_bins fun i j => Ideal.exp (exponent (z - a i) (t - b j) + Ideal.log (e i j))]
  refine Finset.sum_congr rfl fun j _ => ?_
  rw [sum_factor _ _ fun i => mul_nonneg (bell_nonneg _) (he i j)]
  exact Finset.sum_congr rfl fun i _ => bin_eq _ _ (he i j)

end Cert.Factor

end
-- ==== Proof.Kernel.lean ====
/-
  What one grid point of the kernel computes, and what the arrays its host prefix prepares hold.
-/
module

public import proofs.«01_k».proof.Proof.Gen.KernelIdeal.Value
public import proofs.«01_k».proof.Proof.Factor
public import Idealize.ShloMosaic.Lib.Pointwise
public import Idealize.ShloMosaic.Lib.StableHlo.Run

@[expose] public section

noncomputable section

namespace Cert.KernelIdeal.At

open Cert.KernelIdeal Cert.KernelIdeal.Gen Idealize.ShloMosaic Idealize.ShloMosaic.TcCoe Idealize.SL.Sem

/-! ## The arrays of the host prefix -/

/-- The 128 bin centres as one row: the 64 of the first coordinate, read down the first column of bins, then the 64 of the
    second, read along the first row of bins. -/
def centres (means : FVec Ideal S64x64x2 .f32) : FVec Ideal S1x128 .f32 :=
  shapeCast S1x128 (concatenate S128 0
    [⟨S64, shapeCast S64 (extractStridedSlice S64x1x1 ![0, 0, 0] means slices_S64x64x2_S64x1x1_0_0_0) shapeCasts_S64x1x1_S64⟩,
     ⟨S64, shapeCast S64 (extractStridedSlice S1x64x1 ![0, 0, 1] means slices_S64x64x2_S1x64x1_0_0_1) shapeCasts_S1x64x1_S64⟩]
    concatenates_S64_S64_S128_d0) shapeCasts_S128_S1x128

/-- The 128 scales as one row. -/
def scales : FVec Ideal S1x128 .f32 :=
  shapeCast S1x128 (concatenate S128 0
    [⟨S64, broadcastInDim S64 ![] bcast_S_S64 (constant (F := Ideal) S_ .f32 0xC2480000#32)⟩,
     ⟨S64, broadcastInDim S64 ![] bcast_S_S64 (constant (F := Ideal) S_ .f32 0xC2480000#32)⟩]
    concatenates_S64_S64_S128_d0) shapeCasts_S128_S1x128

/-- The weights, the small constant added, to the right of 64 columns of zeros. -/
def padded (w : FVec Ideal S64x64x1 .f32) : FVec Ideal S64x128 .f32 :=
  concatenate S64x128 1
    [⟨S64x64, broadcastInDim S64x64 ![] bcast_S_S64x64 (constant (F := Ideal) S_ .f32 0x00000000#32)⟩,
     ⟨S64x64, addf (shapeCast S64x64 w shapeCasts_S64x64x1_S64x64)
        (broadcastInDim S64x64 ![] bcast_S_S64x64 (constant (F := Ideal) S_ .f32 0x3C23D70A#32))⟩]
    concatenates_S64x64_S64x64_S64x128_d1

/-- Lane `i` of the first half holds the first coordinate of the centre of bin `(i, 0)`. -/
theorem centres_lower (means : FVec Ideal S64x64x2 .f32) (i : Fin 64) :
    centres means (ix2 0 ⟨i.val, by omega⟩) = means (ix3 i 0 0) := by
  pointwise [centres]

/-- Lane `64 + j` holds the second coordinate of the centre of bin `(0, j)`. -/
theorem centres_upper (means : FVec Ideal S64x64x2 .f32) (j : Fin 64) :
    centres means (ix2 0 ⟨j.val + 64, by omega⟩) = means (ix3 0 j 1) := by
  pointwise [centres]
  rw [dif_neg (by omega)]
  simp

/-- Every scale is the same constant. -/
theorem scales_apply (k : Fin 128) : scales (ix2 0 k) = Ideal.ofBits .f32 0xC2480000#32 := by
  pointwise [scales]
  exact ite_self _

/-- The padded weights are zero in the first 64 columns. -/
theorem padded_lower (w : FVec Ideal S64x64x1 .f32) (i : Fin 64) (k : Fin 128) (h : k.val < 64) :
    padded w (ix2 i k) = (0 : EReal) := by
  pointwise [padded]
  rw [dif_pos h]

/-- Column `64 + j` of the padded weights holds the weights of column `j`, the small constant added. -/
theorem padded_upper (w : FVec Ideal S64x64x1 .f32) (i j : Fin 64) :
    padded w (ix2 i ⟨j.val + 64, by omega⟩) = w (ix3 i j 0) + Ideal.ofBits .f32 0x3C23D70A#32 := by
  pointwise [padded]
  rw [dif_neg (by omega)]
  simp

/-! ## One block -/

/-- The comparison of the lane number with 64, on a lane of the first half. -/
theorem lane_lower (k : Nat) (h : k < 64) : IntOp.cmpi .slt (BitVec.ofNat 32 k) 64#32 = 1#1 := by
  interval_cases k <;> decide

/-- The comparison of the lane number with 64, on a lane of the second half. -/
theorem lane_upper (k : Nat) (h : 64 ≤ k) (h' : k < 128) : IntOp.cmpi .slt (BitVec.ofNat 32 k) 64#32 = 0#1 := by
  interval_cases k <;> decide

/-- ONE BLOCK: row `r` of what the kernel computes from a block of each coordinate and the three prepared arrays is minus
    the mixture at that row's two coordinates. -/
theorem pay_apply (z t : FVec Ideal S4096x1 .f32) (means : FVec Ideal S64x64x2 .f32) (w : FVec Ideal S64x64x1 .f32) (r : Fin 4096) :
    k0_pay1 (F := Ideal) z t (centres means) scales (padded w) (ix2 r 0)
      = -Factor.mixture (z (ix2 r 0)) (t (ix2 r 0)) (fun i => means (ix3 i 0 0)) (fun j => means (ix3 0 j 1))
          (fun i j => w (ix3 i j 0) + Ideal.ofBits .f32 0x3C23D70A#32) := by
  pointwise [k0_pay1]
  rw [zero_sub]
  refine congrArg Neg.neg ?_
  rw [Factor.sum_upper _ fun k h => by simp [padded_lower w _ k h]]
  unfold Factor.mixture
  refine Finset.sum_congr rfl fun j _ => ?_
  rw [scales_apply, centres_upper, lane_upper _ (Nat.le_add_left _ _) (by omega)]
  refine congrArg₂ (· * ·) (Finset.sum_congr rfl fun i _ => ?_) rfl
  rw [scales_apply, centres_lower, lane_lower _ i.isLt, padded_upper]
  rfl

/-! ## The prefix run -/

variable (m : (ℓ : Loc nD τ sig) → Buf (Elt Ideal) ℓ)

/-- When the kernel starts, its third array holds the bin centres. -/
theorem V_centres (c : Dev nD) : V m c main_v5 = centres (m ((c : Thread nD τ).loc main_arg2)) := by
  unfold V hostOps0 centres
  after_results_simp
  refine congrArg₂ (fun a b => shapeCast S1x128 (concatenate S128 0 [⟨S64, a⟩, ⟨S64, b⟩] concatenates_S64_S64_S128_d0) shapeCasts_S128_S1x128) ?_ ?_
  · after_results_simp
    rfl
  · after_results_simp
    rfl

/-- When the kernel starts, its fourth array holds the scales. -/
theorem V_scales (c : Dev nD) : V m c main_v9 = scales := by
  unfold V hostOps0 scales
  after_results_simp
  refine congrArg₂ (fun a b => shapeCast S1x128 (concatenate S128 0 [⟨S64, a⟩, ⟨S64, b⟩] concatenates_S64_S64_S128_d0) shapeCasts_S128_S1x128) ?_ ?_
  · after_results_simp
  · after_results_simp

/-- When the kernel starts, its fifth array holds the padded weights. -/
theorem V_padded (c : Dev nD) : V m c main_v14 = padded (m ((c : Thread nD τ).loc main_arg3)) := by
  unfold V hostOps0 padded
  after_results_simp
  refine congrArg₂ (fun a b => concatenate S64x128 1 [⟨S64x64, a⟩, ⟨S64x64, b⟩] concatenates_S64x64_S64x64_S64x128_d1) ?_ ?_
  · after_results_simp
  · after_results_simp
    rfl

end Cert.KernelIdeal.At

end
-- ==== Proof.Result.lean ====
/-
  What the kernel's result array holds after a run: at each of the 16384 rows, minus the mixture at that row's two
  coordinates. Each grid point writes its block of that one array, and the four blocks cover it.
-/
module

public import proofs.«01_k».proof.Proof.Kernel
public import Idealize.ShloMosaic.Lib.Pipeline.Value

@[expose] public section

noncomputable section

namespace Cert.KernelIdeal.At

open Cert.KernelIdeal Cert.KernelIdeal.Gen Idealize.ShloMosaic Idealize.ShloMosaic.TcCoe Idealize.SL.Sem
open Idealize.ShloMosaic.Pipeline (Dat)

/-- The result as one function of the four arguments: minus the mixture at the row's two coordinates, the bin centres
    read in the first column and the first row of bins. -/
def value (z t : FVec Ideal S16384x1 .f32) (means : FVec Ideal S64x64x2 .f32) (w : FVec Ideal S64x64x1 .f32) :
    FVec Ideal S16384x1 .f32 := fun i =>
  -Factor.mixture (z i) (t i) (fun a => means (ix3 a 0 0)) (fun b => means (ix3 0 b 1))
    (fun a b => w (ix3 a b 0) + Ideal.ofBits .f32 0x3C23D70A#32)

variable (m : (ℓ : Loc nD τ sig) → Buf (Elt Ideal) ℓ) (ρ : Dev nD → PrngReg)

/-- `value` of device `c`'s arguments. -/
abbrev valueOf (c : Dev nD) : FVec Ideal S16384x1 .f32 :=
  value (m ((c : Thread nD τ).loc main_arg0)) (m ((c : Thread nD τ).loc main_arg1))
    (m ((c : Thread nD τ).loc main_arg2)) (m ((c : Thread nD τ).loc main_arg3))

theorem hz : (![0, 0] : Fin 2 → Nat) = fun _ => 0 := funext fun a => by fin_cases a <;> rfl

/-- The windows of the three prepared arrays stay at block zero. -/
theorem index_whole (t : Fin cfg0.N) (a : Fin 2) :
    win0_2.index t a = 0 ∧ win0_3.index t a = 0 ∧ win0_4.index t a = 0 := by
  rcases fin_N0 t with rfl | rfl | rfl | rfl <;> fin_cases a <;> decide +kernel

/-- Every point reads the whole row of bin centres, -/
theorem block_centres (c : Dev nD) (t : Fin cfg0.N) : iblk m c 2 t = centres (m ((c : Thread nD τ).loc main_arg2)) := by
  rw [← V_centres]
  funext x
  unfold iblk
  refine congrArg (V m c main_v5) (funext fun a => Fin.ext ?_)
  show win0_2.index t a * win0_2.size a + 1 * (x a).val = (x a).val
  rw [(index_whole t a).1]
  omega

/-- the whole row of scales, -/
theorem block_scales (c : Dev nD) (t : Fin cfg0.N) : iblk m c 3 t = scales := by
  rw [← V_scales m c]
  funext x
  unfold iblk
  refine congrArg (V m c main_v9) (funext fun a => Fin.ext ?_)
  show win0_3.index t a * win0_3.size a + 1 * (x a).val = (x a).val
  rw [(index_whole t a).2.1]
  omega

/-- and all the padded weights. -/
theorem block_padded (c : Dev nD) (t : Fin cfg0.N) : iblk m c 4 t = padded (m ((c : Thread nD τ).loc main_arg3)) := by
  rw [← V_padded]
  funext x
  unfold iblk
  refine congrArg (V m c main_v14) (funext fun a => Fin.ext ?_)
  show win0_4.index t a * win0_4.size a + 1 * (x a).val = (x a).val
  rw [(index_whole t a).2.2]
  omega

/-- Its block of the first coordinate lies in the argument where its block of the result lies in the result, -/
theorem block_z (c : Dev nD) (t : Fin cfg0.N) (x : S4096x1.Idx) :
    iblk m c 0 t x = m ((c : Thread nD τ).loc main_arg0) (((cfg0.win 5).blk t).view.emb x) := by
  rw [← V_main_arg0 m c]
  rfl

/-- and so does its block of the second coordinate. -/
theorem block_t (c : Dev nD) (t : Fin cfg0.N) (x : S4096x1.Idx) :
    iblk m c 1 t x = m ((c : Thread nD τ).loc main_arg1) (((cfg0.win 5).blk t).view.emb x) := by
  rw [← V_main_arg1 m c]
  rfl

/-- One block at an index of it: minus the mixture at the two coordinates there. -/
theorem pay_row (z t : FVec Ideal S4096x1 .f32) (means : FVec Ideal S64x64x2 .f32) (w : FVec Ideal S64x64x1 .f32) (x : S4096x1.Idx) :
    k0_pay1 (F := Ideal) z t (centres means) scales (padded w) x
      = -Factor.mixture (z x) (t x) (fun i => means (ix3 i 0 0)) (fun j => means (ix3 0 j 1))
          (fun i j => w (ix3 i j 0) + Ideal.ofBits .f32 0x3C23D70A#32) := by
  have hx : x = ix2 (x 0) 0 := (eq_ix2 x).trans (congrArg (ix2 (x 0)) (Subsingleton.elim (α := Fin 1) _ _))
  rw [hx]
  exact pay_apply z t means w (x 0)

/-- What point `t` writes back is block `t` of `value`. -/
theorem flushed_eq (c : Dev nD) (t : Fin cfg0.N) :
    (dats m 0 c).flushed 5 t = ((cfg0.win 5).blk t).view.read (Elt Ideal) (valueOf m c) := by
  rw [Value.flushed5]
  unfold out0_5
  rw [View.canon_unit_zero hz, View.ld_unit_zero hz, View.ld_unit_zero hz, View.ld_unit_zero hz, View.ld_unit_zero hz,
    View.ld_unit_zero hz, block_centres, block_scales, block_padded]
  funext x
  refine (pay_row _ _ _ _ x).trans ?_
  rw [block_z, block_t]
  rfl

/-- An index of the result is in point `t`'s block when its row is among the 4096 from row `4096 t` on. -/
theorem mem_blk (t : Fin cfg0.N) (i : S16384x1.Idx) :
    i ∈ ((cfg0.win 5).blk t).view.set ↔ t.val * 4096 ≤ (i 0 : Nat) ∧ (i 0 : Nat) < t.val * 4096 + 4096 := by
  show i ∈ ((View.whole main_v15).slice (win0_5.rect t)).set ↔ _
  rw [View.set_slice_whole, Rect.mem_set_unit]
  have h1 : (i 1 : Nat) < 1 := (i 1).isLt
  have e : win0_5.index t 0 * win0_5.size 0 = t.val * 4096 ∧ win0_5.xsize (grid0.coords t) 0 = 4096
      ∧ win0_5.index t 1 * win0_5.size 1 = 0 ∧ win0_5.xsize (grid0.coords t) 1 = 1 := by
    rcases fin_N0 t with rfl | rfl | rfl | rfl <;> decide +kernel
  refine ⟨fun h => ?_, fun h a => ?_⟩
  · have : win0_5.index t 0 * win0_5.size 0 ≤ (i 0 : Nat) ∧ (i 0 : Nat) < win0_5.index t 0 * win0_5.size 0 + win0_5.xsize (grid0.coords t) 0 := h 0
    rw [e.1, e.2.1] at this; exact this
  · match a with
    | ⟨0, _⟩ => show win0_5.index t 0 * win0_5.size 0 ≤ (i 0 : Nat) ∧ (i 0 : Nat) < win0_5.index t 0 * win0_5.size 0 + win0_5.xsize (grid0.coords t) 0
                rw [e.1, e.2.1]; exact h
    | ⟨1, _⟩ => show win0_5.index t 1 * win0_5.size 1 ≤ (i 1 : Nat) ∧ (i 1 : Nat) < win0_5.index t 1 * win0_5.size 1 + win0_5.xsize (grid0.coords t) 1
                rw [e.2.2.1, e.2.2.2]; omega

/-- The four blocks cover the result. -/
theorem cover (i : S16384x1.Idx) :
    ∃ t : Fin cfg0.N, (cfg0.win 5).flush t = true ∧ i ∈ ((cfg0.win 5).blk t).view.set := by
  have h0 : (i 0 : Nat) < 16384 := (i 0).isLt
  have hN : cfg0.N = 4 := N_0
  have ht : (i 0 : Nat) / 4096 < cfg0.N := by omega
  refine ⟨⟨(i 0 : Nat) / 4096, ht⟩, flush0_5 _, ?_⟩
  rw [mem_blk]
  dsimp only
  omega

/-- So the result array ends holding `value` of the arguments, -/
theorem final (c : Dev nD) : (dats m 0 c).arrAt 5 cfg0.N = valueOf m c :=
  (dats m 0 c).arrAt_eq_of_cover 5 (valueOf m c) (fun t _ => flushed_eq m c t) cover

/-- and every run ends with it there, the four arguments unchanged. -/
theorem run : θ_run defs (onTc (τ := τ) (main (F := Ideal))) ⟨m, fun _ => 0, ρ⟩ fun r => ∀ c : Dev nD,
      r.2.mem ((c : Thread nD τ).loc main_v15) = valueOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.KernelIdeal.At

end
-- ==== Proof.Reference.lean ====
/-
  What the reference computes, read at a row of its result: minus a sum over the 4096 bins of the exponential of a
  log-density plus a log-weight.
-/
module

public import proofs.«01_k».proof.Proof.Gen.ReferenceIdeal.Run
public import proofs.«01_k».proof.Proof.Factor
public import Idealize.ShloMosaic.Lib.Pointwise

@[expose] public section

noncomputable section

namespace Cert.ReferenceIdeal.At

open Cert.ReferenceIdeal Cert.ReferenceIdeal.Gen Idealize.ShloMosaic Idealize.ShloMosaic.TcCoe Idealize.SL.Sem

variable (z t : FVec Ideal S16384x1 .f32) (means : FVec Ideal S64x64x2 .f32) (w : FVec Ideal S64x64x1 .f32)

/-- Each row's two coordinates less each bin's centre. -/
def offsets : FVec Ideal S16384x4096x2 .f32 :=
  subf
    (broadcastInDim S16384x4096x2 ![0, 1, 2] bcast_S16384x1x2_S16384x4096x2_0_1_2
      (shapeCast S16384x1x2 (concatenate S16384x2 1 [⟨S16384x1, z⟩, ⟨S16384x1, t⟩] concatenates_S16384x1_S16384x1_S16384x2_d1)
        shapeCasts_S16384x2_S16384x1x2))
    (broadcastInDim S16384x4096x2 ![0, 1, 2] bcast_S1x4096x2_S16384x4096x2_0_1_2
      (shapeCast S1x4096x2 means shapeCasts_S64x64x2_S1x4096x2))

/-- The variance of each coordinate, repeated over rows and bins. -/
def variances : FVec Ideal S16384x4096x2 .f32 :=
  broadcastInDim S16384x4096x2 ![0, 1, 2] bcast_S1x1x2_S16384x4096x2_0_1_2
    (broadcastInDim S1x1x2 ![2] bcast_S2_S1x1x2_2
      (mulf (Host.divf (constant S2 .f32 0x3F800000#32) (constant S2 .f32 0x41200000#32))
        (Host.divf (constant S2 .f32 0x3F800000#32) (constant S2 .f32 0x41200000#32))))

/-- The logarithm of each bin's weight, the small constant added, repeated over rows. -/
def logWeights : FVec Ideal S16384x4096 .f32 :=
  broadcastInDim S16384x4096 ![0, 1] bcast_S1x4096_S16384x4096_0_1
    (Host.log (addf (shapeCast S1x4096 w shapeCasts_S64x64x1_S1x4096)
      (broadcastInDim S1x4096 ![] bcast_S_S1x4096 (constant S_ .f32 0x3C23D70A#32))))

/-- The exponent at each row and bin: minus half the sum over the coordinates of the squared offset over the variance. -/
def exponents : FVec Ideal S16384x4096 .f32 :=
  mulf (broadcastInDim S16384x4096 ![] bcast_S_S16384x4096 (constant S_ .f32 0xBF000000#32))
    (Host.reduceAdd (Host.divf (mulf (offsets z t means) (offsets z t means)) variances)
      (constant S_ .f32 0x00000000#32) reducesTo_S16384x4096x2_S16384x4096_d2 h_S_)

/-- The whole of what the reference returns, as one function of its four arguments. -/
def total : FVec Ideal S16384x1 .f32 :=
  Host.negf (broadcastInDim S16384x1 ![0] bcast_S16384_S16384x1_0
    (Host.reduceAdd (Host.exp (addf (exponents z t means) (logWeights w)))
      (constant S_ .f32 0x00000000#32) reducesTo_S16384x4096_S16384_d1 h_S_))

set_option maxHeartbeats 2000000 in
/-- THE REFERENCE AT A ROW: bin `k` of the 4096 is the bin in row `k / 64` and column `k % 64` of the grid of bins. -/
theorem total_apply (r : Fin 16384) :
    total z t means w (ix2 r 0)
      = -∑ k : Fin 4096, Ideal.exp
          (Factor.exponent (z (ix2 r 0) - means (ix3 ⟨k.val / 64, by omega⟩ ⟨k.val % 64, by omega⟩ 0))
              (t (ix2 r 0) - means (ix3 ⟨k.val / 64, by omega⟩ ⟨k.val % 64, by omega⟩ 1))
            + Ideal.log (w (ix3 ⟨k.val / 64, by omega⟩ ⟨k.val % 64, by omega⟩ 0) + Ideal.ofBits .f32 0x3C23D70A#32)) := by
  pointwise [total, exponents, offsets, variances, logWeights]
  simp only [Fin.sum_univ_one]
  rfl

/-- Every run of the reference ends with `total` of its arguments in the result, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24)
          = total (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Value.run m ρ

end Cert.ReferenceIdeal.At

end
-- ==== Proof.Precondition.lean ====
/-
  What the precondition says of the arguments, read off its printed form.
-/
module

public import proofs.«01_k».proof.Proof.Gen.Pre_bins_on_a_grid
public import Idealize.ShloMosaic.Lib.Pointwise
public import Idealize.ShloMosaic.Lib.ReduceAll

@[expose] public section

noncomputable section

namespace Cert.Pre_bins_on_a_grid.At

open Cert.Pre_bins_on_a_grid Cert.Pre_bins_on_a_grid.Gen Idealize.ShloMosaic

/-- The result of a reduction over every axis has one index. -/
instance : Subsingleton S_.Idx := ⟨fun _ _ => funext fun a => a.elim0⟩

/-- A comparison that came out 1 compared values of which its statement holds. -/
theorem of_bit {p : Prop} [Decidable p] (h : BitVec.ofBool (decide p) = 1#1) : p := by
  by_contra hp
  rw [decide_eq_false hp] at h
  exact absurd h (by decide)

set_option maxHeartbeats 2000000 in
/-- THE PRECONDITION, READ: a bin's first coordinate is that of the first bin of its row, its second that of the first
    bin of its column, and every weight with the small constant added is nonnegative. -/
theorem of_fn (z t : FVec Ideal S16384x1 .f32) (means : FVec Ideal S64x64x2 .f32) (w : FVec Ideal S64x64x1 .f32)
    (h : fn z t means w = fun _ => 1#1) (i j : Fin 64) :
    means (ix3 i j 0) = means (ix3 i 0 0) ∧ means (ix3 i j 1) = means (ix3 0 j 1)
      ∧ (0 : EReal) ≤ w (ix3 i j 0) + Ideal.ofBits .f32 0x3C23D70A#32 := by
  have h0 := congrFun h fun a => a.elim0
  unfold fn at h0
  obtain ⟨h12, h3⟩ := IntOp.andi_eq_one.1 h0
  obtain ⟨h1, h2⟩ := IntOp.andi_eq_one.1 h12
  have e1 := Host.reduce_andi_all _ _ _ _ _ h1 (ix2 i j)
  have e2 := Host.reduce_andi_all _ _ _ _ _ h2 (ix2 i j)
  have e3 := Host.reduce_andi_all _ _ _ _ _ h3 (ix3 i j 0)
  clear h h0 h12 h1 h2 h3
  pointwise at e1
  pointwise at e2
  pointwise at e3
  exact ⟨of_bit e1, of_bit e2, of_bit e3⟩

end Cert.Pre_bins_on_a_grid.At

end
-- ==== Proof.Equation.lean ====
/-
  The equation: under the precondition the kernel's result and the reference's are the same array.
-/
module

public import proofs.«01_k».proof.Proof.Result
public import proofs.«01_k».proof.Proof.Reference
public import proofs.«01_k».proof.Proof.Precondition

@[expose] public section

noncomputable section

namespace Cert.Equation

open Cert.KernelIdeal Cert.KernelIdeal.Gen Idealize.ShloMosaic

/-- THE EQUATION: at arguments that satisfy the precondition, what the reference returns is what the kernel's result
    array ends holding. -/
theorem total_eq_value (z t : FVec Ideal S16384x1 .f32) (means : FVec Ideal S64x64x2 .f32) (w : FVec Ideal S64x64x1 .f32)
    (h : Cert.Pre_bins_on_a_grid.fn z t means w = fun _ => 1#1) :
    Cert.ReferenceIdeal.At.total z t means w = Cert.KernelIdeal.At.value z t means w := by
  funext x
  have hx : x = ix2 (x 0) 0 := (eq_ix2 x).trans (congrArg (ix2 (x 0)) (Subsingleton.elim (α := Fin 1) _ _))
  have hp := Cert.Pre_bins_on_a_grid.At.of_fn z t means w h
  rw [hx]
  refine (Cert.ReferenceIdeal.At.total_apply z t means w (x 0)).trans (congrArg Neg.neg ?_)
  refine Eq.trans (Finset.sum_congr rfl fun k _ => ?_)
    (Factor.sum_eq_mixture (z (ix2 (x 0) 0)) (t (ix2 (x 0) 0)) (fun a => means (ix3 a 0 0)) (fun b => means (ix3 0 b 1))
      (fun a b => w (ix3 a b 0) + Ideal.ofBits .f32 0x3C23D70A#32) fun i j => (hp i j).2.2)
  rw [(hp _ _).1, (hp _ _).2.1]

end Cert.Equation

end
-- ==== Proof.lean ====
/-
  The proof of every claim: the three runs end with their arguments unchanged and their semaphores at zero, the kernel's
  idealization replaced nothing, and under the precondition the kernel and the reference return the same array.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_bins_on_a_grid
public import proofs.«01_k».proof.Proof.Gen.KernelIdeal.Value
public import proofs.«01_k».proof.Proof.Gen.ReferenceIdeal.Run
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs to the end from every memory, leaves its arguments as they were, and every semaphore at zero: it has
    no semaphore. -/
theorem frame_reference : Cert.quiescent_ReferenceIdeal := fun m g _ =>
  (θ_run _ _ _).mono (fun r h => ⟨fun c => (h c).2, sem_eq_zero_of_no_sems (by decide) r.2⟩)
    (Cert.ReferenceIdeal.Value.run m g)

/-- At arguments that satisfy the precondition, the kernel and the reference both run and end with the same result, their
    arguments as they were. -/
theorem algebraic : Cert.algebraic_KernelIdeal_ReferenceIdeal_pre_bins_on_a_grid := fun m g m' g' hpre hargs =>
  ⟨Cert.KernelIdeal.At.valueOf m, Cert.KernelIdeal.At.run m g,
    (θ_run _ _ _).mono (fun r h c => ⟨(h c).1.trans (by
        obtain ⟨h0, h1, h2, h3⟩ := hargs c
        rw [h0, h1, h2, h3]
        exact Cert.Equation.total_eq_value _ _ _ _ (hpre c)), (h c).2⟩)
      (Cert.ReferenceIdeal.At.run m' g')⟩

/-- Everything claimed. -/
theorem claim : Cert.Claim :=
  ⟨Cert.Kernel.Gen.facts, Cert.KernelIdeal.Gen.facts, Cert.ReferenceIdeal.Gen.facts, Cert.Pre_bins_on_a_grid.Gen.facts,
    fun m g _ => Cert.Kernel.Gen.frame m g,
    fun m g _ => Cert.KernelIdeal.Gen.frame m g,
    fun m g _ => Cert.KernelIdeal.Gen.frame m g,
    frame_reference,
    fun m g _ => frame_reference m g trivial,
    trivial,
    algebraic⟩

end Cert.Proof

end
